-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_hw" .f32 0x39AAAAAB#32 ((1 / 3072 : ℝ) : EReal)

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S512x17x64x48 : Shape := ⟨4, ![512, 17, 64, 48]⟩
abbrev S512x17 : Shape := ⟨2, ![512, 17]⟩
abbrev S_ : Shape := ⟨0, ![]⟩

class Facts : Prop where
  bcast_S_S512x17 : S_.BroadcastsInDim S512x17 (![] : Fin 0 → Fin S512x17.rank)

variable [Facts]

def fn {F : FTy → Type} [FloatOps F] (main_arg0 : FVec F S512x17x64x48 .f32) (main_arg1 : FVec F S512x17x64x48 .f32) (main_arg2 : FVec F S512x17 .f32) : IVec S512x17 1 :=
  let main_v0 : FVec F S512x17 .f32 := Host.absf main_arg2
  let main_cst : FVec F S_ .f32 := constant S_ .f32 0x7F800000#32
  let main_v1 : FVec F S512x17 .f32 := broadcastInDim S512x17 ![] bcast_S_S512x17 main_cst
  let main_v2 : IVec S512x17 1 := cmpf .olt main_v0 main_v1
  main_v2
-- ==== Kernel.lean ====
abbrev S512x17x64x48 : Shape := ⟨4, ![512, 17, 64, 48]⟩
abbrev S512x17 : Shape := ⟨2, ![512, 17]⟩
abbrev S17x64x48x512 : Shape := ⟨4, ![17, 64, 48, 512]⟩
abbrev S17x512 : Shape := ⟨2, ![17, 512]⟩
abbrev S1x1 : Shape := ⟨2, ![1, 1]⟩
abbrev S1x64x48x512 : Shape := ⟨4, ![1, 64, 48, 512]⟩
abbrev S64x48x512 : Shape := ⟨3, ![64, 48, 512]⟩
abbrev S512 : Shape := ⟨1, ![512]⟩
abbrev S1x512 : Shape := ⟨2, ![1, 512]⟩
abbrev S1 : Shape := ⟨1, ![1]⟩
abbrev S_ : Shape := ⟨0, ![]⟩

abbrev nBuf : Space → Nat
  | .hbm => 10
  | .vmem => 6
  | .smem => 1
  | _ => 0

abbrev bufTy : (tb : Table) → Fin (tcTables nBuf tb) → BufTy
  | .hbm, ⟨0, _⟩ => ⟨S512x17x64x48, .f32⟩
  | .hbm, ⟨1, _⟩ => ⟨S512x17x64x48, .f32⟩
  | .hbm, ⟨2, _⟩ => ⟨S512x17, .f32⟩
  | .hbm, ⟨3, _⟩ => ⟨S17x64x48x512, .f32⟩
  | .hbm, ⟨4, _⟩ => ⟨S17x64x48x512, .f32⟩
  | .hbm, ⟨5, _⟩ => ⟨S17x512, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1x64x48x512, .f32⟩
  | .local _ .vmem, ⟨1, _⟩ => ⟨S1x64x48x512, .f32⟩
  | .local _ .vmem, ⟨2, _⟩ => ⟨S1x64x48x512, .f32⟩
  | .local _ .vmem, ⟨3, _⟩ => ⟨S1x64x48x512, .f32⟩
  | .local _ .vmem, ⟨4, _⟩ => ⟨S17x512, .f32⟩
  | .local _ .vmem, ⟨5, _⟩ => ⟨S17x512, .f32⟩
  | .local _ .smem, ⟨0, _⟩ => ⟨S1x1, .f32⟩
  | _, _ => ⟨S512x17x64x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![17], ![false]⟩

def k0_off1 (i : grid0.Coords) : Fin 2 → Nat :=
  let arg0 : BitVec 32 := BitVec.ofNat 32 (i 0).val
  let v8 : Index := Scalar.indexCast arg0
  let c0_7 : Index := 0#32
  ![v8.toNat, 0]
def k0_cond1 (i : grid0.Coords) : BitVec 1 :=
  let arg0 : BitVec 32 := BitVec.ofNat 32 (i 0).val
  let c16_i32 : BitVec 32 := 16#32
  let v12 : BitVec 1 := Scalar.cmpi .eq arg0 c16_i32
  let v13 : BitVec 32 := Scalar.extui v12
  let c0_i32 : BitVec 32 := 0#32
  let v14 : BitVec 1 := Scalar.cmpi .ne v13 c0_i32
  v14

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x48x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x48x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S17x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "inv_hw" => some ((1 / 3072 : ℝ) : EReal)
  | _ => none
-- ==== ReferenceIdeal.lean ====
abbrev S512x17x64x48 : Shape := ⟨4, ![512, 17, 64, 48]⟩
abbrev S512x17 : Shape := ⟨2, ![512, 17]⟩
abbrev S512x17x1x1 : Shape := ⟨4, ![512, 17, 1, 1]⟩
abbrev S_ : Shape := ⟨0, ![]⟩
abbrev S512x8 : Shape := ⟨2, ![512, 8]⟩
abbrev S512 : Shape := ⟨1, ![512]⟩

abbrev nBuf : Space → Nat
  | .hbm => 28
  | .vmem => 0
  | .smem => 0
  | _ => 0

abbrev bufTy : (tb : Table) → Fin (tcTables nBuf tb) → BufTy
  | .hbm, ⟨0, _⟩ => ⟨S512x17x64x48, .f32⟩
  | .hbm, ⟨1, _⟩ => ⟨S512x17x64x48, .f32⟩
  | .hbm, ⟨2, _⟩ => ⟨S512x17, .f32⟩
  | .hbm, ⟨3, _⟩ => ⟨S512x17x1x1, .f32⟩
  | .hbm, ⟨4, _⟩ => ⟨S512x17x64x48, .f32⟩
  | .hbm, ⟨5, _⟩ => ⟨S512x17x64x48, .f32⟩
  | .hbm, ⟨6, _⟩ => ⟨S512x17x64x48, .f32⟩
  | .hbm, ⟨7, _⟩ => ⟨S512x17x64x48, .f32⟩
  | .hbm, ⟨8, _⟩ => ⟨S512x17x64x48, .f32⟩
  | .hbm, ⟨9, _⟩ => ⟨S512x17x64x48, .f32⟩
  | .hbm, ⟨10, _⟩ => ⟨S_, .f32⟩
  | .hbm, ⟨11, _⟩ => ⟨S512x17, .f32⟩
  | .hbm, ⟨12, _⟩ => ⟨S_, .f32⟩
  | .hbm, ⟨13, _⟩ => ⟨S512x17, .f32⟩
  | .hbm, ⟨14, _⟩ => ⟨S512x17, .f32⟩
  | .hbm, ⟨15, _⟩ => ⟨S512x8, .f32⟩
  | .hbm, ⟨16, _⟩ => ⟨S512x8, .i32⟩
  | .hbm, ⟨17, _⟩ => ⟨S_, .f32⟩
  | .hbm, ⟨18, _⟩ => ⟨S512, .f32⟩
  | .hbm, ⟨19, _⟩ => ⟨S_, .f32⟩
  | .hbm, ⟨20, _⟩ => ⟨S512, .f32⟩
  | .hbm, ⟨21, _⟩ => ⟨S512, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S512x17x64x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_values : Ref sig .tc := ⟨.hbm, 15, rfl⟩
abbrev main_indices : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== Proof.Body.lean ====
/- What one run of the kernel's body leaves behind, at any grid point: the point's row of the scratch, and at the last
   point the one output word. -/
module

public import proofs.«01_k».proof.Proof.Gen.KernelIdeal.Frame
public import proofs.«01_k».proof.Proof.Gen.KernelIdeal.Skeleton
public import Idealize.ShloMosaic.Lib.ValueIdx
public import Idealize.ShloMosaic.Lib.VecWindow
public import Idealize.ShloMosaic.Lib.WritesUnit
public import Idealize.ShloMosaic.Lib.WholeRead

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ (UR sig nD τ) ℕ

/-! ## The values the body computes -/

/-- The scratch with row `i` replaced by `r`. -/
def withRow (i : ℕ) (r : Vec F S1x512 .f32) (x : Vec F S17x512 .f32) : Vec F S17x512 .f32 :=
  fun y => if (y 0).val = i then r (ix2 (0 : Fin 1) (y 1)) else x y

/-- Every row's own number, one word per element. -/
def rowNo : IVec S17x512 32 := iota .tc S17x512 32 [0] iota_S17x512_d0_w32

/-- The word the last grid point stores, from the weights `w` and the row sums `x`. -/
def finish (w x : Vec F S17x512 .f32) : F .f32 :=
  k0_pay2 rowNo (k0_pay17 rowNo (k0_pay7 w x) (k0_pay10 w x)) (k0_pay18 rowNo (k0_pay7 w x) (k0_pay10 w x))
    (k0_pay19 rowNo (k0_pay7 w x) (k0_pay9 w x) (k0_pay10 w x))

/-! ## The grid -/

/-- The branch of the body is taken at the last point exactly. -/
theorem last_iff (t : Fin cfg0.N) : k0_cond1 (grid0.coords t) = 1#1 ↔ t.val = 16 :=
  (fun t => by
    have ht : t.val < 17 := Nat.lt_of_lt_of_eq t.isLt N_0
    have e0 : (grid0.coords t 0).val = t.val / 1 % 17 := Pipeline.Grid.coords_val t 0 (by decide) rfl
    have e1 : (grid0.coords t 0).val = t.val := by omega
    simp only [k0_cond1, e1]
    word_cmp : ∀ t : Fin grid0.N, k0_cond1 (grid0.coords t) = 1#1 ↔ t.val = 16) t

/-- The one coordinate of a point is the point's number. -/
theorem coord_val (t : Fin cfg0.N) : (grid0.coords t 0).val = t.val :=
  (fun t => by
    have ht : t.val < 17 := Nat.lt_of_lt_of_eq t.isLt N_0
    have e0 : (grid0.coords t 0).val = t.val / 1 % 17 := Pipeline.Grid.coords_val t 0 (by decide) rfl
    omega : ∀ t : Fin grid0.N, (grid0.coords t 0).val = t.val) t

/-- A store of one whole row into the scratch replaces that row. -/
theorem read_row_store {arg5 : Memref sig .tc .vmem S17x512 .f32} (f : arg5.view.ty.Contents (Elt F)) (x : Vec F S17x512 .f32)
    (hf : arg5.view.read (Elt F) f = x) (i : grid0.Coords) (r : Vec F S1x512 .f32) :
    arg5.view.read (Elt F) (arg5.view.writes (Elt F) f [⟨Rect.unit (s := S17x512) (k0_off1 i) S1x512.size (k0_off1_inb i), r⟩])
      = withRow (i 0).val r x := by
  funext y
  unfold withRow
  split
  · next h =>
    exact View.read_writes_cons_rows_of_mem arg5.view f (k0_off1_inb i) r [] y (ix2 (0 : Fin 1) (y 1)) (k0_off1_eq i)
      (by rw [h]; rfl) rfl
  · next h =>
    rw [View.read_writes_cons_rows_of_not_mem arg5.view f (k0_off1_inb i) r [] y (k0_off1_eq i) (W := 1) rfl (by omega),
      View.writes_nil, hf]

/-! ## The two runs -/

set_option maxHeartbeats 1000000 in
/-- Before the last point the body replaces its row of the scratch by the row sums of its two blocks and leaves the
    output word alone. -/
theorem run_inner (c : Dev nD) (i : grid0.Coords) (arg1 : Memref sig .tc .vmem S1x64x48x512 .f32) (harg1 : arg1.IsWhole) (arg2 : Memref sig .tc .vmem S1x64x48x512 .f32) (harg2 : arg2.IsWhole) (arg3 : Memref sig .tc .vmem S17x512 .f32) (harg3 : arg3.IsWhole) (arg4 : Memref sig .tc .smem S1x1 .f32) (harg4 : arg4.IsWhole) (arg5 : Memref sig .tc .vmem S17x512 .f32) (harg5 : arg5.IsWhole)
    (hc0 : ¬ k0_cond1 i = 1#1)
    (x0 x1 : Vec F S1x64x48x512 .f32) (x2 : Vec F S17x512 .f32) (x3 : Vec F S1x1 .f32) (x4 : Vec F S17x512 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (withRow (i 0).val (k0_pay1 x0 x1) x4)) -∗ K ⟨⟩))
      ⊢ wp frame (wpE (defs₀ (F := F)) Variants.none c none) E (cc0__body i arg1 harg1 arg2 harg2 arg3 harg3 arg4 harg4 arg5 harg5) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1
  sl_exec (disch := first | sl_exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr; swap; · iexact H4
  ipureintro
  rw [View.readAt_full, View.readAt_full, hf0, hf1]
  exact read_row_store f4 x4 hf4 i _

set_option maxHeartbeats 1000000 in
/-- At the last point the body replaces its row of the scratch in the same way and stores the finished word. -/
theorem run_last (c : Dev nD) (i : grid0.Coords) (arg1 : Memref sig .tc .vmem S1x64x48x512 .f32) (harg1 : arg1.IsWhole) (arg2 : Memref sig .tc .vmem S1x64x48x512 .f32) (harg2 : arg2.IsWhole) (arg3 : Memref sig .tc .vmem S17x512 .f32) (harg3 : arg3.IsWhole) (arg4 : Memref sig .tc .smem S1x1 .f32) (harg4 : arg4.IsWhole) (arg5 : Memref sig .tc .vmem S17x512 .f32) (harg5 : arg5.IsWhole)
    (hc0 : k0_cond1 i = 1#1)
    (x0 x1 : Vec F S1x64x48x512 .f32) (x2 : Vec F S17x512 .f32) (x3 : Vec F S1x1 .f32) (x4 : Vec F S17x512 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (iprop(owns (c : Thread nD τ) arg1 fullShare x0 ∗ owns (c : Thread nD τ) arg2 fullShare x1 ∗ owns (c : Thread nD τ) arg3 fullShare x2 ∗ owns (c : Thread nD τ) arg4 fullShare (fun _ => finish x2 (withRow (i 0).val (k0_pay1 x0 x1) x4)) ∗ owns (c : Thread nD τ) arg5 fullShare (withRow (i 0).val (k0_pay1 x0 x1) x4)) -∗ K ⟨⟩))
      ⊢ wp frame (wpE (defs₀ (F := F)) Variants.none c none) E (cc0__body i arg1 harg1 arg2 harg2 arg3 harg3 arg4 harg4 arg5 harg5) K := by
  simp only [cc0__body_eq_skeleton]; unfold cc0__body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2
  sl_exec (disch := first | sl_exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; swap; · iexact H3
    ipureintro
    sl_unfold_run_names
    rw [View.readAt_full arg1.view, View.readAt_full arg2.view, View.readAt_full arg3.view, View.readAt_full arg5.view, hf0, hf1, hf2,
      read_row_store f4 x4 hf4 i]
    funext y
    exact View.read_writes_cons_unit_of_mem arg4.view f3 inb_S1x1_S1x1_0_0 _ [] y y (off' := ![0, 0]) rfl
      (Fin.forall_fin_two.mpr ⟨(Nat.zero_add _).symm, (Nat.zero_add _).symm⟩)
  iexists _; isplitr; swap; · iexact H4
  ipureintro
  sl_unfold_run_names
  rw [View.readAt_full, View.readAt_full, hf0, hf1]
  exact read_row_store f4 x4 hf4 i _

end Cert.KernelIdeal.Body

end
-- ==== Proof.Region.lean ====
/- The kernel's whole run: what the scratch holds from point to point, what the one output word is at the end, and what
   the host lines after the region make of it. -/
module

public import proofs.«01_k».proof.Proof.Body
public import Idealize.ShloMosaic.Lib.Claim
public import Idealize.ShloMosaic.Lib.Pipeline.ValueKit

@[expose] public section

set_option maxRecDepth 16384

noncomputable section

namespace Cert.KernelIdeal.Region

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the scratch and the output hold -/

/-- The point of the grid a row of the scratch belongs to. -/
def pointOf (k : Fin 17) : Fin cfg0.N := ⟨k.val, Nat.lt_of_lt_of_eq k.isLt N_0.symm⟩

/-- All the row sums: row `k` is computed from the two blocks of point `k`. -/
def sums (c : Dev nD) : Vec F S17x512 .f32 :=
  fun y => k0_pay1 (iblk m c 0 (pointOf (y 0))) (iblk m c 1 (pointOf (y 0))) (ValueIdx.ix2 (0 : Fin 1) (y 1))

/-- The first `n` rows of the scratch are row sums. -/
def Filled (c : Dev nD) (n : ℕ) (x : Vec F S17x512 .f32) : Prop := ∀ y, (y 0).val < n → x y = sums m c y

/-- Writing point `t`'s row sums into row `t` fills one more row. -/
theorem filled_step (c : Dev nD) (t : Fin cfg0.N) (x : Vec F S17x512 .f32) (h : Filled m c t.val x) :
    Filled m c (t.val + 1) (withRow (grid0.coords t 0).val (k0_pay1 (iblk m c 0 t) (iblk m c 1 t)) x) := by
  intro y hy
  unfold withRow
  rw [coord_val]
  split
  · next e =>
    have ht : pointOf (y 0) = t := Fin.ext e
    unfold sums
    rw [ht]
  · exact h y (by omega)

/-- Once every row is filled the scratch is the row sums. -/
theorem filled_all (c : Dev nD) (x : Vec F S17x512 .f32) (h : Filled m c 17 x) : x = sums m c :=
  funext fun y => h y (y 0).isLt

/-- The invariant before point `n`: the scratch with its first `n` rows filled, and the generator register. -/
def inv (c : Dev nD) (n : ℕ) : sProp 𝕄 :=
  iprop((∃ x, ⌜Filled m c n x⌝ ∗ owns (c : Thread nD τ) (Memref.whole cc0_scratch0) fullShare x) ∗ (∃ r, prngReg c r))

/-- The region's own leftover resources are the scratch at some contents and the generator register. -/
theorem rest_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

theorem rest_inv (c : Dev nD) : (Pipeline.ΦA spec0 c : sProp 𝕄) ⊢ inv m c 0 := by
  rw [rest_eq]; unfold inv
  iintro ⟨⟨%d, H⟩, Hg⟩
  isplitl [H]
  · iexists d; isplitr
    · ipureintro; exact fun y hy => absurd hy (Nat.not_lt_zero _)
    iexact H
  iexact Hg

theorem inv_rest (c : Dev nD) (n : ℕ) : inv m c n ⊢ (Pipeline.ΦA spec0 c : sProp 𝕄) := by
  rw [rest_eq]; unfold inv
  iintro ⟨⟨%d, -, H⟩, Hg⟩
  isplitl [H]
  · iexists d; iexact H
  iexact Hg

/-- The pipeline's proof data on core `c`: the inputs' staging buffers keep their blocks, the output's holds the
    finished word once the last point stored it, the scratch fills up row by row. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fun _ => finish (iblk m c 2 t) (sums m c)
  Φ t := inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = fun _ => finish (iblk m c 2 t) (sums m c) := by dsimp only [dats]

/-- An input's staging buffer holds its block when the body is called. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

theorem inv_here (c : Dev nD) (t : Fin cfg0.N) : (dats m 0 c).Φ t.castSucc = inv m c t.val := by
  dsimp only [dats]; exact Pipeline.Dat.Φ_castSucc (fun n _ => inv m c n) t
theorem inv_next (c : Dev nD) (t : Fin cfg0.N) : (dats m 0 c).Φ t.succ = inv m c (t.val + 1) := by
  dsimp only [dats]; rfl

/-! ## The body obligation -/

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
/-- The output's window is live at the last point, -/
theorem live_3 (t : Fin cfg0.N) (h : k0_cond1 (grid0.coords t) = 1#1) : cfg0.idle 3 (grid0.coords t) = false := by
  show (!(k0_cond1 (grid0.coords t) == 1#1)) = false
  rw [h]; rfl
/-- and idle before it. -/
theorem idle_3 (t : Fin cfg0.N) (h : ¬ k0_cond1 (grid0.coords t) = 1#1) : cfg0.idle 3 (grid0.coords t) = true := by
  show (!(k0_cond1 (grid0.coords t) == 1#1)) = true
  rw [beq_false_of_ne h]; rfl

/-- Each window's current staging memref at point `t`. -/
abbrev stage_0 (t : Fin cfg0.N) : Memref sig .tc .vmem S1x64x48x512 .f32 := win0_0.stage (cfg0.slots t 0)
abbrev stage_1 (t : Fin cfg0.N) : Memref sig .tc .vmem S1x64x48x512 .f32 := win0_1.stage (cfg0.slots t 1)
abbrev stage_2 (t : Fin cfg0.N) : Memref sig .tc .vmem S17x512 .f32 := win0_2.stage (cfg0.slots t 2)
abbrev stage_3 (t : Fin cfg0.N) : Memref sig .tc .smem S1x1 .f32 := win0_3.stage (cfg0.slots t 3)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (stage_0 t) fullShare ((dats m 0 c).before 0 t d))
    ∗ (∃ d, owns (c : Thread nD τ) (stage_1 t) fullShare ((dats m 0 c).before 1 t d))
    ∗ (∃ d, owns (c : Thread nD τ) (stage_2 t) fullShare ((dats m 0 c).before 2 t d))
    ∗ (∃ d, owns (c : Thread nD τ) (stage_3 t) fullShare ((dats m 0 c).before 3 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t)

set_option maxHeartbeats 1600000 in
/-- The body's triple at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [inv_here, inv_next, show (dats m 0 c).owesAt () t.succ = (dats m 0 c).owesAt () t.castSucc from rfl]
  rw [show (dats m 0 c).leavesExact 0 t = owns (c : Thread nD τ) (stage_0 t) fullShare ((dats m 0 c).after 0 t) from by
      unfold Dat.leavesExact; rw [live_0 t], after_0,
    show (dats m 0 c).leavesExact 1 t = owns (c : Thread nD τ) (stage_1 t) fullShare ((dats m 0 c).after 1 t) from by
      unfold Dat.leavesExact; rw [live_1 t], after_1,
    show (dats m 0 c).leavesExact 2 t = owns (c : Thread nD τ) (stage_2 t) fullShare ((dats m 0 c).after 2 t) from by
      unfold Dat.leavesExact; rw [live_2 t], after_2]
  unfold inv
  by_cases h : k0_cond1 (grid0.coords t) = 1#1
  · rw [show (dats m 0 c).leavesExact 3 t = owns (c : Thread nD τ) (stage_3 t) fullShare ((dats m 0 c).after 3 t) from by
      unfold Dat.leavesExact; rw [live_3 t h], after_3]
    iintro ⟨⟨⟨%x, %hx, HS⟩, Hg⟩, Ho, ⟨%d0, H0⟩, ⟨%d1, H1⟩, ⟨%d2, H2⟩, ⟨%d3, H3⟩⟩
    have hfill := filled_step m c t x hx
    have hx' : withRow (grid0.coords t 0).val (k0_pay1 (iblk m c 0 t) (iblk m c 1 t)) x = sums m c :=
      filled_all m c _ (by rw [(last_iff t).mp h] at hfill; exact hfill)
    iapply (run_last c (grid0.coords t) _ _ _ _ _ _ _ _ _ _ h (iblk m c 0 t) (iblk m c 1 t) (iblk m c 2 t) _ x Set.univ _)
    isplitl [H0]; · iexact H0
    isplitl [H1]; · iexact H1
    isplitl [H2]; · iexact H2
    isplitl [H3]; · iexact H3
    isplitl [HS]; · iexact HS
    rw [hx'] at hfill ⊢
    iintro ⟨H0, H1, H2, H3, HS⟩
    isplitl [HS Hg]
    · isplitl [HS]
      · iexists _; isplitr; · ipureintro; exact hfill
        iexact HS
      iexact Hg
    isplitl [Ho]; · iexact Ho
    isplitl [H0]; · iexact H0
    isplitl [H1]; · iexact H1
    isplitl [H2]; · iexact H2
    iexact H3
  · rw [(dats m 0 c).leavesExact_idle 3 t (idle_3 t h) (by
      rw [Bool.eq_false_iff]; intro hf
      have := (flush0_3 t).mp hf
      have ht : t.val < 17 := Nat.lt_of_lt_of_eq t.isLt N_0
      exact h ((last_iff t).mpr (by omega)))]
    iintro ⟨⟨⟨%x, %hx, HS⟩, Hg⟩, Ho, ⟨%d0, H0⟩, ⟨%d1, H1⟩, ⟨%d2, H2⟩, ⟨%d3, H3⟩⟩
    iapply (run_inner c (grid0.coords t) _ _ _ _ _ _ _ _ _ _ h (iblk m c 0 t) (iblk m c 1 t) (iblk m c 2 t) _ x Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]
      · iexists _; isplitr; · ipureintro; exact filled_step m c t x hx
        iexact HS
      iexact Hg
    isplitl [Ho]; · iexact Ho
    isplitl [H0]; · iexact H0
    isplitl [H1]; · iexact H1
    isplitl [H2]; · iexact H2
    iexists d3; iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every execution terminates with the pipeline's arrays at what the proof data says, every other buffer at what the
    host lines leave, and every semaphore counter at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => rest_inv m c) (hout := fun c => inv_rest m c _)
    (Q' := _) (hQ' := fun _ h => h)

/-- The last point of the grid. -/
def lastPoint : Fin cfg0.N := pointOf (16 : Fin 17)

/-- The output array ends holding the finished word. -/
theorem final_3 (c : Dev nD) :
    (dats m 0 c).arrAt 3 cfg0.N = fun _ => finish (iblk m c 2 lastPoint) (sums m c) := by
  refine (dats m 0 c).arrAt_eq_of_after_last 3 lastPoint (by decide +kernel) _ fun j => ?_
  rw [after_3]; rfl

/-- The result buffer after the host lines: the finished word divided by 4096. -/
theorem result (c : Dev nD) : Pipeline.afterTail₀ cfgs (dats m) 0 (V0 m) [hostOps1] c main_v5
    = Host.divf (fun _ => finish (iblk m c 2 lastPoint) (sums m c)) (constant S_ .f32 0x45800000#32) := by
  unfold Pipeline.afterTail₀ hostOps1
  rw [List.flatten_singleton]
  have e : Pipeline.withArrays spec0 c (V0 m c) (fun w => (dats m 0 c).arrAt w cfg0.N) (Proc.devRef .tc main_v3)
      = fun _ => finish (iblk m c 2 lastPoint) (sums m c) :=
    (Pipeline.withArrays_arr spec0 launch0.win.arr_inj c _ _ 3).trans (final_3 m c)
  after_results
  rw [e]
  rfl

/-- The kernel's whole run: the result, the arguments unchanged, the semaphores zero. -/
theorem run : θ_run defs (onTc (τ := τ) (main (F := F))) ⟨m, fun _ => 0, ρ⟩ (fun r => (∀ c : Dev nD,
      r.2.mem ((c.tc : Thread nD τ).loc main_v5)
        = Host.divf (fun _ => finish (iblk m c 2 lastPoint) (sums m c)) (constant S_ .f32 0x45800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).2 main_v5 (Pipeline.mem_restRefs_of main_v5 (by decide) (by decide))).trans (result m c),
     ((h.1 c).2 main_arg0 (Pipeline.mem_restRefs_of main_arg0 (by decide) (by decide))).trans (W_main_arg0 m (dats m) c),
     ((h.1 c).2 main_arg1 (Pipeline.mem_restRefs_of main_arg1 (by decide) (by decide))).trans (W_main_arg1 m (dats m) c),
     ((h.1 c).2 main_arg2 (Pipeline.mem_restRefs_of main_arg2 (by decide) (by decide))).trans (W_main_arg2 m (dats m) c)⟩,
    h.2⟩) (run_main m ρ)

end Cert.KernelIdeal.Region

end
-- ==== Proof.Plain.lean ====
/- The kernel as written. It is its idealization with the named constant read as the float word in its place, so what is
   proved of the idealization's run at every instance holds of the kernel's. -/
module

public import proofs.«01_k».proof.Proof.Gen.Kernel
public import proofs.«01_k».proof.Proof.Region

@[expose] public section

set_option maxRecDepth 16384

noncomputable section

namespace Cert.Plain

open Idealize.ShloMosaic Idealize.SL.Sem

variable {F : FTy → Type} [FloatOps F]

/-- Every named constant read as the float word that it was written as. -/
@[instance_reducible] def words : Named F := ⟨fun _ _ _ bits => Scalar.ofBits _ bits⟩

set_option backward.isDefEq.respectTransparency false in
set_option maxHeartbeats 1000000 in
/-- The kernel's body is the idealization's with the constant read as its word. -/
theorem body_eq : @Cert.Kernel.cc0__body F _ _ = @Cert.KernelIdeal.cc0__body F _ words _ := rfl

set_option backward.isDefEq.respectTransparency false in
set_option maxHeartbeats 1000000 in
/-- So are the bodies that the launch calls, -/
theorem bodies_eq : Cert.Kernel.defs₀ (F := F) = @Cert.KernelIdeal.defs₀ F _ words _ := by
  unfold Cert.Kernel.defs₀ Cert.KernelIdeal.defs₀
  rw [body_eq]
  refine congrArg Defs.onTc (funext fun l => ?_)
  match l with
  | 0 => rfl

/-- and with them the launch itself. -/
theorem defs_eq : Cert.Kernel.defs (F := F) = @Cert.KernelIdeal.defs F _ words _ :=
  congrArg (Pipeline.defs _) bodies_eq

/-- The host lines around the launch are the same. -/
theorem main_eq : Cert.Kernel.main (F := F) = @Cert.KernelIdeal.main F _ _ := rfl

/-- The kernel's whole run: its arguments unchanged and its semaphores zero at the end. -/
theorem run (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [defs_eq, main_eq]
  letI : Named F := words
  exact (θ_run _ _ _).mono (fun _ h => ⟨fun c => (h.1 c).2, h.2⟩) (Cert.KernelIdeal.Region.run (F := F) m ρ)

end Cert.Plain

end
-- ==== Proof.Strike.lean ====
/- Taking the greatest value out of a finite family over and over reads a descending list of the family's values from
   the front. -/
module

public import Mathlib.Data.EReal.Basic
public import Mathlib.Data.Finset.Lattice.Fold
public import Mathlib.Data.Finset.Max
public import Mathlib.Data.Fintype.Basic
public import Mathlib.Algebra.Order.Group.Multiset

@[expose] public section

noncomputable section

namespace Cert.Strike

variable {n : ℕ}

/-- The greatest value of a family, `⊥` for the empty one. -/
def peak (v : Fin n → EReal) : EReal := Finset.univ.sup v

/-- The greatest value is taken at some position. -/
theorem exists_peak (v : Fin (n + 1) → EReal) : ∃ k, v k = peak v := by
  obtain ⟨k, -, hk⟩ := Finset.exists_mem_eq_sup Finset.univ Finset.univ_nonempty v
  exact ⟨k, hk.symm⟩

/-- The positions at which the greatest value is taken. -/
def peaks (v : Fin (n + 1) → EReal) : Finset (Fin (n + 1)) := Finset.univ.filter fun k => v k = peak v

/-- There is such a position. -/
theorem peaks_nonempty (v : Fin (n + 1) → EReal) : (peaks v).Nonempty := by
  obtain ⟨k, hk⟩ := exists_peak v
  exact ⟨k, Finset.mem_filter.mpr ⟨Finset.mem_univ _, hk⟩⟩

/-- The first position at which the greatest value is taken. -/
def first (v : Fin (n + 1) → EReal) : Fin (n + 1) := (peaks v).min' (peaks_nonempty v)

/-- The first such position takes the greatest value. -/
theorem at_first (v : Fin (n + 1) → EReal) : v (first v) = peak v :=
  (Finset.mem_filter.mp ((peaks v).min'_mem (peaks_nonempty v))).2

/-- No earlier position takes the greatest value. -/
theorem first_le (v : Fin (n + 1) → EReal) (k : Fin (n + 1)) (hk : v k = peak v) : first v ≤ k :=
  (peaks v).min'_le k (Finset.mem_filter.mpr ⟨Finset.mem_univ _, hk⟩)

/-- The family with the first of its greatest values replaced by `⊥`. -/
def strike (v : Fin (n + 1) → EReal) : Fin (n + 1) → EReal := Function.update v (first v) ⊥

/-- A struck family, position by position. -/
theorem strike_apply (v : Fin (n + 1) → EReal) (k : Fin (n + 1)) : strike v k = if k = first v then ⊥ else v k := by
  unfold strike; rw [Function.update_apply]

/-- The values of a family, with their multiplicities. -/
def values (v : Fin n → EReal) : Multiset EReal := Finset.univ.val.map v

/-- A family whose values are a descending list and some `⊥`s has the list's head as its greatest value. -/
theorem peak_of_values (v : Fin n → EReal) (x : EReal) (l : List EReal) (m : ℕ)
    (h : values v = ((x :: l : List EReal) : Multiset EReal) + Multiset.replicate m ⊥) (hs : (x :: l).Pairwise (· ≥ ·)) : peak v = x := by
  refine le_antisymm (Finset.sup_le fun k _ => ?_) ?_
  · have hk : v k ∈ values v := Multiset.mem_map_of_mem v (Finset.mem_univ_val k)
    rw [h, Multiset.mem_add, Multiset.mem_coe, List.mem_cons] at hk
    rcases hk with (hk | hk) | hk
    · exact hk.le
    · exact (List.pairwise_cons.mp hs).1 _ hk
    · rw [Multiset.eq_of_mem_replicate hk]; exact bot_le
  · have hx : x ∈ values v := by rw [h]; simp
    obtain ⟨k, -, rfl⟩ := Multiset.mem_map.mp hx
    exact Finset.le_sup (f := v) (Finset.mem_univ k)

/-- Striking out the head of the list turns it into one more `⊥`. -/
theorem values_strike (v : Fin (n + 1) → EReal) (x : EReal) (l : List EReal) (m : ℕ)
    (h : values v = ((x :: l : List EReal) : Multiset EReal) + Multiset.replicate m ⊥) (hs : (x :: l).Pairwise (· ≥ ·)) :
    values (strike v) = (l : Multiset EReal) + Multiset.replicate (m + 1) ⊥ := by
  have hp := peak_of_values v x l m h hs
  have hu : (Finset.univ : Finset (Fin (n + 1))).val = first v ::ₘ (Finset.univ.erase (first v)).val := by
    rw [Finset.erase_val, Multiset.cons_erase (Finset.mem_univ_val _)]
  have hrest : (Finset.univ.erase (first v)).val.map (strike v) = (Finset.univ.erase (first v)).val.map v :=
    Multiset.map_congr rfl fun k hk => by
      rw [strike_apply, if_neg (Finset.ne_of_mem_erase (Finset.mem_val.mp hk))]
  have h1 : values v = x ::ₘ (Finset.univ.erase (first v)).val.map v := by
    unfold values; rw [hu, Multiset.map_cons, at_first v, hp]
  have h2 : values (strike v) = ⊥ ::ₘ (Finset.univ.erase (first v)).val.map v := by
    unfold values; rw [hu, Multiset.map_cons, hrest, strike_apply, if_pos rfl]
  rw [h1, ← Multiset.cons_coe, Multiset.cons_add] at h
  rw [h2, (Multiset.cons_inj_right x).mp h, Multiset.replicate_succ, Multiset.add_cons]

/-- After `r` strikes the values left are the list without its first `r` entries. -/
theorem values_iterate (v : Fin (n + 1) → EReal) (l : List EReal) (hl : l.Pairwise (· ≥ ·)) (h : values v = ↑l) :
    ∀ r, r ≤ l.length → values (strike^[r] v) = (l.drop r : Multiset EReal) + Multiset.replicate r ⊥
  | 0, _ => by simpa using h
  | r + 1, hr => by
    have ih := values_iterate v l hl h r (Nat.le_of_succ_le hr)
    rw [List.drop_eq_getElem_cons hr] at ih
    rw [Function.iterate_succ_apply']
    refine values_strike _ _ _ _ ih ?_
    rw [← List.drop_eq_getElem_cons hr]
    exact hl.sublist (List.drop_sublist r l)

/-- The greatest value after `r` strikes is entry `r` of the descending list. -/
theorem peak_iterate (v : Fin (n + 1) → EReal) (l : List EReal) (hl : l.Pairwise (· ≥ ·)) (h : values v = ↑l)
    (r : ℕ) (hr : r < l.length) : peak (strike^[r] v) = l[r] := by
  have ih := values_iterate v l hl h r hr.le
  rw [List.drop_eq_getElem_cons hr] at ih
  refine peak_of_values _ _ _ _ ih ?_
  rw [← List.drop_eq_getElem_cons hr]
  exact hl.sublist (List.drop_sublist r l)

end Cert.Strike

end
-- ==== Proof.Columns.lean ====
/- The last point's work, column by column: each of the eight rounds adds the column's greatest value to a running sum and
   strikes its first occurrence out. -/
module

public import proofs.«01_k».proof.Proof.Body
public import proofs.«01_k».proof.Proof.Strike
public import Idealize.ShloMosaic.Lib.Pointwise
public import Idealize.ShloMosaic.PureOps.IdealRules
public import Idealize.ShloMosaic.Lib.WordArith

@[expose] public section

set_option maxRecDepth 16384

noncomputable section

namespace Cert.KernelIdeal.Columns

open Cert.KernelIdeal Cert.KernelIdeal.Gen Cert.KernelIdeal.Body
open Idealize.ShloMosaic Cert.Strike

/-! ## One round, as the kernel computes it -/

section Rounds

variable {F : FTy → Type} [FloatOps F]

/-- Every column's greatest value. -/
def top (x : FVec F S17x512 .f32) : FVec F S512 .f32 :=
  multiReduction .maximumf [0] S512 x 0xFF800000#32 reduces_S17x512_S512 (.inl rfl) rfl

/-- The row where each column first takes its greatest value. -/
def topRow (x : FVec F S17x512 .f32) : IVec S512 32 :=
  multiReductionI .minsi [0] S512
    (select (cmpf .oeq x (broadcastTo S17x512 (shapeCast S1x512 (top x) shapeCasts_S512_S1x512) broadcasts_S1x512_S17x512))
      rowNo (broadcast S17x512 17#32))
    2147483647#32 reduces_S17x512_S512 rfl

/-- The columns with the entry in that row replaced by minus infinity. -/
def struck (x : FVec F S17x512 .f32) : FVec F S17x512 .f32 :=
  select
    (cmpi .eq rowNo (broadcastTo S17x512 (shapeCast S1x512 (topRow x) shapeCasts_S512_S1x512) broadcasts_S1x512_S17x512))
    (broadcast S17x512 (Scalar.ofBits .f32 0xFF800000#32)) x

/-- The greatest values of the eight rounds, added up in order from zero. -/
def eight (x : FVec F S17x512 .f32) : FVec F S512 .f32 :=
  addf (addf (addf (addf (addf (addf (addf (addf (broadcast S512 (Scalar.ofBits .f32 0x00000000#32))
    (top x)) (top (struck x))) (top (struck (struck x)))) (top (struck (struck (struck x)))))
    (top (struck (struck (struck (struck x)))))) (top (struck (struck (struck (struck (struck x)))))))
    (top (struck (struck (struck (struck (struck (struck x))))))))
    (top (struck (struck (struck (struck (struck (struck (struck x))))))))

/-- The sum over the columns. -/
def overColumns (x : FVec F S512 .f32) : F .f32 :=
  extractAt ![0, 0] (shapeCast S1x1 (multiReduction .add [1] S1 (shapeCast S1x512 x shapeCasts_S512_S1x512) 0x00000000#32
    reduces_S1x512_S1 (.inl rfl) rfl) shapeCasts_S1_S1x1) inpos_S1x1_p0_0

/-- The last point sums the eight rounds on the weighted row sums over the columns. -/
theorem finish_eq [Named F] (w x : FVec F S17x512 .f32) : finish w x = overColumns (eight (k0_pay3 w x)) := rfl

end Rounds

/-! ## The same over the extended reals -/

/-- Column `b` of an array of seventeen rows. -/
def col (x : FVec Ideal S17x512 .f32) (b : Fin 512) : Fin 17 → EReal := fun k => x (ix2 k b)

/-- The literal of minus infinity is the bottom of the extended reals. -/
theorem ofBits_negInf : Ideal.ofBits .f32 0xFF800000#32 = ⊥ := by
  simp [Ideal.ofBits, Ideal.ieee]

/-- A column's greatest value is the greatest of its seventeen entries. -/
theorem top_apply (x : FVec Ideal S17x512 .f32) (b : Fin 512) : top (F := Ideal) x (ix1 b) = peak (col x b) := by
  pointwise [top]
  rw [ofBits_negInf]
  rfl

/-- The signed minimum of words below `2 ^ 31` is the minimum of the numbers they stand for. -/
theorem fold_minsi {ι : Type*} [DecidableEq ι] (s : Finset ι) (f : ι → BitVec 32) (hf : ∀ i, (f i).toNat < 2 ^ 31) :
    (s.fold IntOp.minsi 2147483647#32 f).toNat = s.fold min 2147483647 (fun i => (f i).toNat) := by
  induction s using Finset.induction_on with
  | empty => rfl
  | insert a s ha ih =>
    have hlt : (s.fold IntOp.minsi 2147483647#32 f).toNat < 2 ^ 31 := by
      rw [ih, Finset.fold_min_lt]
      exact .inl (by norm_num)
    rw [Finset.fold_insert ha, Finset.fold_insert ha, WordArith.toNat_minsi_of_lt _ _ (hf a) hlt, ih]

/-- The smallest row marked as greatest, seventeen standing for an unmarked one, is the first row that takes the greatest
    value. -/
theorem fold_first (v : Fin 17 → EReal) :
    Finset.univ.fold IntOp.minsi 2147483647#32 (fun k : Fin 17 => if v k = peak v then BitVec.ofNat 32 k.val else 17#32)
      = BitVec.ofNat 32 (first v).val := by
  have hn : ∀ k : Fin 17, (if v k = peak v then BitVec.ofNat 32 k.val else 17#32).toNat = if v k = peak v then k.val else 17 := by
    intro k
    have := k.isLt
    split
    · rw [BitVec.toNat_ofNat]; omega
    · rfl
  apply BitVec.eq_of_toNat_eq
  rw [fold_minsi _ _ fun k => by rw [hn]; have := k.isLt; split <;> omega]
  have hlt := (first v).isLt
  rw [BitVec.toNat_ofNat, Nat.mod_eq_of_lt (by omega)]
  simp only [hn]
  refine le_antisymm ?_ ?_
  · rw [Finset.fold_min_le]
    exact .inr ⟨first v, Finset.mem_univ _, by rw [if_pos (at_first v)]⟩
  · rw [Finset.le_fold_min]
    refine ⟨by omega, fun k _ => ?_⟩
    split
    · exact first_le v k ‹_›
    · omega

/-- The row found in a column is the first one that takes the column's greatest value. -/
theorem topRow_apply (x : FVec Ideal S17x512 .f32) (b : Fin 512) :
    topRow (F := Ideal) x (ix1 b) = BitVec.ofNat 32 (first (col x b)).val := by
  pointwise [topRow, rowNo]
  rw [top_apply]
  exact fold_first (col x b)

/-- Two row numbers are the same word exactly when they are the same row. -/
theorem ofNat_inj (k l : Fin 17) : BitVec.ofNat 32 k.val = BitVec.ofNat 32 l.val ↔ k = l := by
  refine ⟨fun h => Fin.ext ?_, fun h => by rw [h]⟩
  have := congrArg BitVec.toNat h
  have := k.isLt
  have := l.isLt
  simp only [BitVec.toNat_ofNat] at *
  omega

/-- A round strikes the first greatest entry out of every column. -/
theorem struck_apply (x : FVec Ideal S17x512 .f32) (b : Fin 512) : col (struck (F := Ideal) x) b = strike (col x b) := by
  funext k
  rw [strike_apply]
  unfold col
  pointwise [struck, rowNo]
  rw [topRow_apply, ofBits_negInf]
  by_cases h : k = first (col x b)
  · rw [← h, if_pos (show k = first fun k => x (ix2 k b) from h)]
    simp [Scalar.select, IntOp.cmpi]
  · rw [if_neg (show ¬ k = first fun k => x (ix2 k b) from h)]
    have hne : (BitVec.ofNat 32 k.val == BitVec.ofNat 32 (first (col x b)).val) = false :=
      beq_eq_false_iff_ne.mpr (mt (ofNat_inj k _).mp h)
    simp [Scalar.select, IntOp.cmpi, hne]

/-- The sum over the columns is the sum of the 512 entries. -/
theorem overColumns_eq (x : FVec Ideal S512 .f32) : overColumns (F := Ideal) x = ∑ b : Fin 512, x (ix1 b) := by
  pointwise [overColumns]

/-- The eight rounds add up the eight greatest values of the column. -/
theorem eight_apply (x : FVec Ideal S17x512 .f32) (b : Fin 512) :
    eight (F := Ideal) x (ix1 b) = ∑ r : Fin 8, peak (strike^[r.val] (col x b)) := by
  simp only [eight, pointwise, top_apply, struck_apply]
  rw [Fin.sum_univ_eight, zero_add]
  rfl

/-- A weighted row sum, entry by entry. -/
theorem pay3_apply (w x : FVec Ideal S17x512 .f32) (y : S17x512.Idx) :
    k0_pay3 (F := Ideal) w x y = x y * w y * w y * ((1 / 3072 : ℝ) : EReal) := by
  pointwise [k0_pay3]
  exact congrArg _ (IdealRules.named_const.ideal_named_scalar κ "inv_hw" _ _ rfl)

/-- The entries of a 64 × 48 × 512 array that lie over lane `b`. -/
theorem fiber (h : S64x48x512.Reduces [0, 1] S512) (b : Fin 512) (i : S64x48x512.Idx) :
    h.drop i = ix1 b ↔ ∃ p : Fin 64 × Fin 48, (ix3 p.1 p.2 b : S64x48x512.Idx) = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨p, rfl⟩
    funext b; apply Fin.ext
    match b with
    | ⟨0, _⟩ => rfl

/-- A point's payload at lane `b`: the sum over the pixels of the squared differences of the two blocks. -/
theorem pay1_apply (o t : FVec Ideal S1x64x48x512 .f32) (b : Fin 512) :
    k0_pay1 (F := Ideal) o t (ix2 (0 : Fin 1) b) = ∑ p : Fin 64 × Fin 48,
      (o (ix4 (0 : Fin 1) p.1 p.2 b) - t (ix4 (0 : Fin 1) p.1 p.2 b))
        * (o (ix4 (0 : Fin 1) p.1 p.2 b) - t (ix4 (0 : Fin 1) p.1 p.2 b)) := by
  pointwise [k0_pay1]
  refine (Finset.sum_filter_eq_sum_of_fiber _ (fun p : Fin 64 × Fin 48 => (ix3 p.1 p.2 b : S64x48x512.Idx))
    (fun p q e => Prod.ext (congrFun e 0) (congrFun e 1)) (fiber _ b) _).trans ?_
  refine Finset.sum_congr rfl fun p _ => ?_
  pointwise []

end Cert.KernelIdeal.Columns

end
-- ==== Proof.Weighted.lean ====
/- Weighting two extended reals by a real before squaring their difference multiplies the squared difference by the
   weight twice, and such factors move in and out of sums of nonnegative terms. -/
module

public import Mathlib.Data.EReal.Operations
public import Mathlib.Data.EReal.Inv
public import Mathlib.Algebra.BigOperators.Group.Finset.Basic

@[expose] public section

noncomputable section

namespace Cert.Weighted

open EReal

/-- A square is nonnegative. -/
theorem sq_nonneg (x : EReal) : 0 ≤ x * x := by
  induction x with
  | bot => simp
  | top => simp
  | coe r => rw [← EReal.coe_mul]; exact EReal.coe_nonneg.mpr (mul_self_nonneg r)

/-- The squared difference of two numbers weighted by a real is their squared difference times the weight twice. -/
theorem sq_weighted (x y : EReal) (w : ℝ) :
    (x * w - y * w) * (x * w - y * w) = (x - y) * (x - y) * w * w := by
  rcases lt_trichotomy w 0 with hw | hw | hw
  · induction x <;> induction y <;>
      simp [EReal.top_mul_coe_of_neg hw, EReal.bot_mul_coe_of_neg hw, ← EReal.coe_mul, ← EReal.coe_sub]
    ring
  · subst hw; simp
  · induction x <;> induction y <;>
      simp [EReal.top_mul_coe_of_pos hw, EReal.bot_mul_coe_of_pos hw, ← EReal.coe_mul, ← EReal.coe_sub]
    ring

/-- A factor moves into a sum of nonnegative terms. -/
theorem sum_mul {ι : Type*} (s : Finset ι) (f : ι → EReal) (hf : ∀ i ∈ s, 0 ≤ f i) (c : EReal) :
    (∑ i ∈ s, f i) * c = ∑ i ∈ s, f i * c := by
  classical
  induction s using Finset.induction_on with
  | empty => simp
  | insert a s ha ih =>
    have hs : ∀ i ∈ s, 0 ≤ f i := fun i hi => hf i (Finset.mem_insert_of_mem hi)
    rw [Finset.sum_insert ha, Finset.sum_insert ha,
      EReal.right_distrib_of_nonneg (hf a (Finset.mem_insert_self a s)) (Finset.sum_nonneg hs), ih hs]

/-- The squared differences of a finite set, weighted before squaring and then summed, are the sum of the plain squared
    differences times the weight twice. -/
theorem sum_sq_weighted {ι : Type*} (s : Finset ι) (x y : ι → EReal) (w : ℝ) :
    ∑ i ∈ s, (x i * w - y i * w) * (x i * w - y i * w) = (∑ i ∈ s, (x i - y i) * (x i - y i)) * w * w := by
  rw [mul_assoc, sum_mul s _ fun i _ => sq_nonneg _]
  exact Finset.sum_congr rfl fun i _ => by rw [sq_weighted, mul_assoc]

/-- Over the samples, the mean of means of eight is the sum over eight times the number of samples. -/
theorem mean_of_means (x : Fin 512 → EReal) :
    (∑ b, x b * ((1 / 8 : ℝ) : EReal)) * ((1 / 512 : ℝ) : EReal) = (∑ b, x b) * ((1 / 4096 : ℝ) : EReal) := by
  have h : ∀ s : Finset (Fin 512), ∑ b ∈ s, x b * ((1 / 8 : ℝ) : EReal) = (∑ b ∈ s, x b) * ((1 / 8 : ℝ) : EReal) := by
    intro s
    induction s using Finset.induction_on with
    | empty => simp
    | insert a s ha ih =>
      rw [Finset.sum_insert ha, Finset.sum_insert ha, ih, EReal.right_distrib_of_nonneg_of_ne_top
        (EReal.coe_nonneg.mpr (by norm_num)) (EReal.coe_ne_top _)]
  rw [h, mul_assoc, ← EReal.coe_mul]
  norm_num

/-- One joint's loss: the sum over the pixels of the squared differences, times the weight twice, over the number of
    pixels. -/
def loss (x y : Fin 64 × Fin 48 → EReal) (w : EReal) : EReal :=
  (∑ p, (x p - y p) * (x p - y p)) * w * w * ((1 / 3072 : ℝ) : EReal)

end Cert.Weighted

end
-- ==== Proof.Blocks.lean ====
/- What the blocks of each point hold, in terms of the program's arguments, and the number the whole run ends with. -/
module

public import proofs.«01_k».proof.Proof.Region
public import proofs.«01_k».proof.Proof.Columns
public import proofs.«01_k».proof.Proof.Weighted
public import Idealize.ShloMosaic.Lib.Pipeline.ValueKit

@[expose] public section

set_option maxRecDepth 16384

noncomputable section

namespace Cert.KernelIdeal.Blocks

open Cert.KernelIdeal Cert.KernelIdeal.Gen Cert.KernelIdeal.Body Cert.KernelIdeal.Region Cert.KernelIdeal.Columns
open Idealize.ShloMosaic Idealize.ShloMosaic.TcCoe Idealize.ShloMosaic.Tactic Cert.Strike

variable (m : (ℓ : Loc nD τ sig) → Buf (Elt Ideal) ℓ) (c : Dev nD)

/-- The region finds the first argument's heat maps with the samples last. -/
theorem V_v0 : V m c main_v0 = transpose S17x64x48x512 [1, 2, 3, 0] (m ((c.tc : Thread nD τ).loc main_arg0))
    transposes_S512x17x64x48_S17x64x48x512_1_2_3_0 := by
  show StableHlo.after hostOps0 _ _ = _
  after_results

/-- The same for the second argument. -/
theorem V_v1 : V m c main_v1 = transpose S17x64x48x512 [1, 2, 3, 0] (m ((c.tc : Thread nD τ).loc main_arg1))
    transposes_S512x17x64x48_S17x64x48x512_1_2_3_0 := by
  show StableHlo.after hostOps0 _ _ = _
  after_results

/-- The region finds the weights with the samples last. -/
theorem V_v2 : V m c main_v2 = transpose S17x512 [1, 0] (m ((c.tc : Thread nD τ).loc main_arg2))
    transposes_S512x17_S17x512_1_0 := by
  show StableHlo.after hostOps0 _ _ = _
  after_results

/-- Which block of its array each input window takes at a point. -/
theorem idx : ∀ k : Fin 17, win0_0.index (pointOf k) = ![k.val, 0, 0, 0] ∧ win0_1.index (pointOf k) = ![k.val, 0, 0, 0]
    ∧ win0_2.index (pointOf k) = ![0, 0] := by
  decide +kernel

/-- Point `k`'s block of the first array holds joint `k`'s heat maps, samples last. -/
theorem block_0 (k : Fin 17) (h : Fin 64) (w : Fin 48) (b : Fin 512) :
    iblk m c 0 (pointOf k) (ix4 (0 : Fin 1) h w b : S1x64x48x512.Idx) = m ((c.tc : Thread nD τ).loc main_arg0) (ix4 b k h w) := by
  have e : iblk m c 0 (pointOf k) (ix4 (0 : Fin 1) h w b : S1x64x48x512.Idx) = V m c main_v0 (ix4 k h w b) := by
    blk_ext [iblk, idx]
  rw [e, V_v0]
  pointwise []

/-- Point `k`'s block of the second array, likewise. -/
theorem block_1 (k : Fin 17) (h : Fin 64) (w : Fin 48) (b : Fin 512) :
    iblk m c 1 (pointOf k) (ix4 (0 : Fin 1) h w b : S1x64x48x512.Idx) = m ((c.tc : Thread nD τ).loc main_arg1) (ix4 b k h w) := by
  have e : iblk m c 1 (pointOf k) (ix4 (0 : Fin 1) h w b : S1x64x48x512.Idx) = V m c main_v1 (ix4 k h w b) := by
    blk_ext [iblk, idx]
  rw [e, V_v1]
  pointwise []

/-- The last point's block of the third array holds all the weights, samples last. -/
theorem block_2 (k : Fin 17) (b : Fin 512) :
    iblk m c 2 lastPoint (ix2 k b : S17x512.Idx) = m ((c.tc : Thread nD τ).loc main_arg2) (ix2 b k) := by
  have e : iblk m c 2 (pointOf 16) (ix2 k b : S17x512.Idx) = V m c main_v2 (ix2 k b) := by
    blk_ext [iblk, idx]
  rw [lastPoint, e, V_v2]
  pointwise []

/-- The first argument: the predicted heat maps. -/
abbrev predicted : FVec Ideal S512x17x64x48 .f32 := m ((c.tc : Thread nD τ).loc main_arg0)

/-- The second argument: the heat maps to predict. -/
abbrev target : FVec Ideal S512x17x64x48 .f32 := m ((c.tc : Thread nD τ).loc main_arg1)

/-- The third argument: the joints' weights. -/
abbrev weights : FVec Ideal S512x17 .f32 := m ((c.tc : Thread nD τ).loc main_arg2)

/-- The loss of sample `b` at joint `k`. -/
def loss (b : Fin 512) (k : Fin 17) : EReal :=
  Weighted.loss (fun p => predicted m c (ix4 b k p.1 p.2)) (fun p => target m c (ix4 b k p.1 p.2)) (weights m c (ix2 b k))

/-- The scratch at joint `k` and sample `b`: the sum over the pixels of the squared differences. -/
theorem sums_apply (k : Fin 17) (b : Fin 512) :
    sums m c (ix2 k b) = ∑ p : Fin 64 × Fin 48,
      (predicted m c (ix4 b k p.1 p.2) - target m c (ix4 b k p.1 p.2))
        * (predicted m c (ix4 b k p.1 p.2) - target m c (ix4 b k p.1 p.2)) := by
  refine (pay1_apply (iblk m c 0 (pointOf k)) (iblk m c 1 (pointOf k)) b).trans ?_
  refine Finset.sum_congr rfl fun p _ => ?_
  rw [block_0, block_1]

/-- The weighted row sums of sample `b` are its losses. -/
theorem col_eq (b : Fin 512) : col (k0_pay3 (F := Ideal) (iblk m c 2 lastPoint) (sums m c)) b = loss m c b := by
  funext k
  unfold col
  rw [pay3_apply, block_2, sums_apply]
  rfl

/-- The word the last point leaves: over all samples, the sum of the eight greatest losses. -/
theorem finish_apply : finish (F := Ideal) (iblk m c 2 lastPoint) (sums m c)
    = ∑ b : Fin 512, ∑ r : Fin 8, peak (strike^[r.val] (loss m c b)) := by
  rw [finish_eq, overColumns_eq]
  refine Finset.sum_congr rfl fun b _ => ?_
  rw [eight_apply, col_eq]

end Cert.KernelIdeal.Blocks

end
-- ==== Proof.Reference.lean ====
/- The reference over the extended reals: every sample's losses, the eight greatest of them, and the two means. -/
module

public import proofs.«01_k».proof.Proof.Gen.ReferenceIdeal
public import proofs.«01_k».proof.Proof.Strike
public import proofs.«01_k».proof.Proof.Weighted
public import Idealize.ShloMosaic.Lib.Pointwise
public import Idealize.ShloMosaic.Lib.SortFacts
public import Idealize.ShloMosaic.Lib.StableHlo

@[expose] public section

set_option maxRecDepth 16384

noncomputable section

namespace Cert.ReferenceIdeal.Model

open Cert.ReferenceIdeal Cert.ReferenceIdeal.Gen Cert.ReferenceIdeal.Facts
open Idealize.ShloMosaic Cert.Strike

/-! ## The reference's stages -/

section Stages

variable {F : FTy → Type} [FloatOps F]

/-- A heat map times its joint's weight. -/
def weighted (x : FVec F S512x17x64x48 .f32) (w : FVec F S512x17 .f32) : FVec F S512x17x64x48 .f32 :=
  mulf x (broadcastInDim S512x17x64x48 ![0, 1, 2, 3] bcast_S512x17x1x1_S512x17x64x48_0_1_2_3
    (broadcastInDim S512x17x1x1 ![0, 1] bcast_S512x17_S512x17x1x1_0_1 w))

/-- The mean squared difference of the weighted heat maps of every sample and joint. -/
def losses (o t : FVec F S512x17x64x48 .f32) (w : FVec F S512x17 .f32) : FVec F S512x17 .f32 :=
  Host.divf
    (Host.reduceAdd (mulf (subf (weighted o w) (weighted t w)) (subf (weighted o w) (weighted t w)))
      (constant S_ .f32 0x00000000#32) reducesTo_S512x17x64x48_S512x17_d2_3 h_S_)
    (broadcastInDim S512x17 ![] bcast_S_S512x17 (constant S_ .f32 0x45400000#32))

/-- Every sample's eight greatest losses. -/
def hardest (l : FVec F S512x17 .f32) : FVec F S512x8 .f32 :=
  (Host.topK S512x8 1 (FloatOps.cmpfTotal .gt) l sliceFits_S512x17_S512x8).1

/-- The mean over the samples of the means of the eight, times one. -/
def means (h : FVec F S512x8 .f32) : FVec F S_ .f32 :=
  mulf
    (Host.divf
      (Host.reduceAdd
        (Host.divf (Host.reduceAdd h (constant S_ .f32 0x00000000#32) reducesTo_S512x8_S512_d1 h_S_)
          (broadcastInDim S512 ![] bcast_S_S512 (constant S_ .f32 0x41000000#32)))
        (constant S_ .f32 0x00000000#32) reducesTo_S512_S_d0 h_S_)
      (constant S_ .f32 0x44000000#32))
    (constant S_ .f32 0x3F800000#32)

end Stages

/-! ## The stages over the extended reals -/

/-- The sort's comparison puts the greater value first. -/
theorem gt_apply (x y : EReal) :
    (FloatOps.cmpfTotal (F := Ideal) (φ := .f32) .gt x y == 1#1) = decide (y < x) := by
  rw [Ideal.cmpfTotal_def]
  by_cases h : y < x <;> simp [Ideal.cmp, CmpDirection.ordered, h]

/-- A family's values in the order the sort puts them. -/
def sorted (v : Fin 17 → EReal) : List EReal :=
  (sortPositions 17 fun k l => decide (v l < v k)).map v

/-- There are seventeen of them. -/
theorem length_sorted (v : Fin 17 → EReal) : (sorted v).length = 17 := by
  rw [sorted, List.length_map, length_sortPositions]

/-- The sort puts them in descending order. -/
theorem sorted_pairwise (v : Fin 17 → EReal) : (sorted v).Pairwise (· ≥ ·) := by
  have h := pairwise_stableSort (fun k l : Fin 17 => decide (v l < v k)) (fun k l => decide (v l < v k))
    (fun a b hab => by simp only [decide_eq_true_eq, decide_eq_false_iff_not, not_lt] at *; exact hab.le)
    (fun _ _ h => h)
    (fun a b c hab hbc => by simp only [decide_eq_false_iff_not, not_lt] at *; exact hab.trans hbc)
    (List.finRange 17)
  refine List.pairwise_map.mpr (h.imp fun {a b} hab => ?_)
  simpa using hab

/-- The sort drops and repeats no value. -/
theorem values_sorted (v : Fin 17 → EReal) : values v = ↑(sorted v) := by
  have h : (Finset.univ : Finset (Fin 17)).val = ↑(List.finRange 17) := rfl
  rw [values, h, Multiset.map_coe, Multiset.coe_eq_coe]
  exact ((perm_sortPositions 17 _).map v).symm

/-- Changing the joint of an index. -/
theorem along_joint (y : S512x17.Idx) (b : Fin 512) (hy : (y 0).val = b.val) (k : Fin 17) : y.along 1 k = ix2 b k := by
  funext a; apply Fin.ext
  match a with
  | ⟨0, _⟩ => exact hy
  | ⟨1, _⟩ => rfl

/-- The first eight columns of an array of seventeen. -/
theorem slice_apply (z : S512x17.Idx → EReal) (b : Fin 512) (r : Fin 8) :
    extractStridedSlice S512x8 (fun _ => 0) z sliceFits_S512x17_S512x8 (ix2 b r) = z (ix2 b (r.castLE (by norm_num))) := by
  pointwise []
  rfl

/-- The reference's `r`-th hardest loss is what the greatest value is after `r` strikes. -/
theorem hardest_apply (l : FVec Ideal S512x17 .f32) (b : Fin 512) (r : Fin 8) :
    hardest (F := Ideal) l (ix2 b r) = peak (strike^[r.val] fun k => l (ix2 b k)) := by
  rw [peak_iterate _ _ (sorted_pairwise _) (values_sorted _) r.val (by rw [length_sorted]; omega)]
  unfold hardest Host.topK Host.sort2
  simp only [gt_apply]
  rw [dif_pos (by norm_num)]
  have ha := along_joint (ix2 b (r.castLE (by norm_num))) b rfl
  have hb : (fun k k' : Fin 17 => decide (l ((ix2 b (r.castLE (by norm_num)) : S512x17.Idx).along 1 k')
      < l ((ix2 b (r.castLE (by norm_num)) : S512x17.Idx).along 1 k)))
      = fun k k' => decide (l (ix2 b k') < l (ix2 b k)) := by
    funext k k'; rw [ha, ha]
  refine (slice_apply _ b r).trans ((congrArg l (ha _)).trans ?_)
  refine (congrArg (fun f => l (ix2 b (sortedFrom f (r.castLE (by norm_num))))) hb).trans ?_
  unfold sorted
  rw [List.getElem_map]
  rfl

/-- Dividing by a nonzero real multiplies by its inverse. -/
theorem div_real (x : EReal) (c : ℝ) (hc : c ≠ 0) : Ideal.div x (c : EReal) = x * ((1 / c : ℝ) : EReal) := by
  rw [Ideal.div_coe hc]

/-- The literal of 3072. -/
theorem ofBits_3072 : Ideal.ofBits .f32 0x45400000#32 = ((3072 : ℝ) : EReal) := by
  simp [Ideal.ofBits, Ideal.ieee, -EReal.coe_mul]; norm_num

/-- The literal of 8. -/
theorem ofBits_8 : Ideal.ofBits .f32 0x41000000#32 = ((8 : ℝ) : EReal) := by
  simp [Ideal.ofBits, Ideal.ieee, -EReal.coe_mul]; norm_num

/-- The literal of 512. -/
theorem ofBits_512 : Ideal.ofBits .f32 0x44000000#32 = ((512 : ℝ) : EReal) := by
  simp [Ideal.ofBits, Ideal.ieee, -EReal.coe_mul]; norm_num

/-- A loss, for a real weight: the weight leaves the squares. -/
theorem losses_apply (o t : FVec Ideal S512x17x64x48 .f32) (w : FVec Ideal S512x17 .f32) (b : Fin 512) (k : Fin 17)
    (r : ℝ) (hr : w (ix2 b k) = (r : EReal)) :
    losses (F := Ideal) o t w (ix2 b k)
      = Weighted.loss (fun p => o (ix4 b k p.1 p.2)) (fun p => t (ix4 b k p.1 p.2)) (w (ix2 b k)) := by
  unfold Weighted.loss
  pointwise [losses, weighted]
  rw [ofBits_3072, div_real _ _ (by norm_num), hr, ← Finset.sum_product', Finset.univ_product_univ]
  exact congrArg (· * _) (Weighted.sum_sq_weighted Finset.univ (fun p : Fin 64 × Fin 48 => o (ix4 b k p.1 p.2))
    (fun p => t (ix4 b k p.1 p.2)) r)

/-- The mean of the samples' means of eight. -/
theorem means_apply (h : FVec Ideal S512x8 .f32) :
    means (F := Ideal) h = fun _ => (∑ b : Fin 512, (∑ r : Fin 8, h (ix2 b r)) * ((1 / 8 : ℝ) : EReal)) * ((1 / 512 : ℝ) : EReal) := by
  funext i
  pointwise [means]
  simp only [ofBits_8, ofBits_512, div_real _ 8 (by norm_num), div_real _ 512 (by norm_num)]

end Cert.ReferenceIdeal.Model

end
-- ==== Proof.Equation.lean ====
/- The two programs end with the same number when every weight is finite. -/
module

public import proofs.«01_k».proof.Proof.Blocks
public import proofs.«01_k».proof.Proof.Reference
public import proofs.«01_k».proof.Proof.Gen.Pre_finite_weights
public import Idealize.ShloMosaic.Lib.Pointwise

@[expose] public section

set_option maxRecDepth 16384

noncomputable section

namespace Cert.Equation

open Idealize.ShloMosaic Idealize.ShloMosaic.TcCoe Cert.Strike
open Cert.KernelIdeal Cert.KernelIdeal.Gen Cert.KernelIdeal.Body Cert.KernelIdeal.Region Cert.KernelIdeal.Blocks

/-- A weight whose absolute value is below infinity is a real. -/
theorem real_of_pre (o t : FVec Ideal S512x17x64x48 .f32) (w : FVec Ideal S512x17 .f32)
    (h : Cert.Pre_finite_weights.fn (F := Ideal) o t w = fun _ => 1#1) (b : Fin 512) (k : Fin 17) :
    ∃ r : ℝ, w (ix2 b k) = (r : EReal) := by
  have h' := congrFun h (ix2 b k)
  have ht : Ideal.ofBits .f32 0x7F800000#32 = ⊤ := by simp [Ideal.ofBits, Ideal.ieee]
  have hlt : max (w (ix2 b k)) (-w (ix2 b k)) < (⊤ : EReal) := by
    by_contra hn
    revert h'
    pointwise [Cert.Pre_finite_weights.fn]
    rw [ht, decide_eq_false (p := FloatOps.absf (F := Ideal) (φ := .f32) (w (ix2 b k)) < (⊤ : EReal)) hn]
    decide
  generalize (w (ix2 b k) : EReal) = x at hlt ⊢
  change EReal at x
  induction x with
  | bot => simp at hlt
  | top => simp at hlt
  | coe r => exact ⟨r, rfl⟩

variable (m : (ℓ : Loc nD τ sig) → Buf (Elt Ideal) ℓ) (c : Dev nD)

/-- The kernel's result: over all samples, the sum of the eight greatest losses, over 4096. -/
theorem kernel_value :
    Host.divf (fun _ => finish (F := Ideal) (iblk m c 2 lastPoint) (sums m c)) (constant S_ .f32 0x45800000#32)
      = fun _ => (∑ b : Fin 512, ∑ r : Fin 8, peak (strike^[r.val] (loss m c b))) * ((1 / 4096 : ℝ) : EReal) := by
  have h4096 : Ideal.ofBits .f32 0x45800000#32 = ((4096 : ℝ) : EReal) := by
    simp [Ideal.ofBits, Ideal.ieee, -EReal.coe_mul]; norm_num
  funext i
  rw [finish_apply]
  pointwise []
  rw [h4096, Ideal.div_coe (by norm_num)]

/-- The reference's result is the same number when every weight is finite. -/
theorem reference_value (h : Cert.Pre_finite_weights.fn (F := Ideal) (predicted m c) (target m c) (weights m c) = fun _ => 1#1) :
    Cert.ReferenceIdeal.Model.means (F := Ideal)
        (Cert.ReferenceIdeal.Model.hardest (Cert.ReferenceIdeal.Model.losses (predicted m c) (target m c) (weights m c)))
      = fun _ => (∑ b : Fin 512, ∑ r : Fin 8, peak (strike^[r.val] (loss m c b))) * ((1 / 4096 : ℝ) : EReal) := by
  have hl : ∀ b : Fin 512, (fun k : Fin 17 =>
      Cert.ReferenceIdeal.Model.losses (F := Ideal) (predicted m c) (target m c) (weights m c) (ix2 b k)) = loss m c b := by
    intro b
    funext k
    obtain ⟨r, hr⟩ := real_of_pre _ _ _ h b k
    exact Cert.ReferenceIdeal.Model.losses_apply _ _ _ b k r hr
  rw [Cert.ReferenceIdeal.Model.means_apply, Weighted.mean_of_means]
  simp only [Cert.ReferenceIdeal.Model.hardest_apply, hl]

/-- Kernel and reference end with the same number when every weight is finite. -/
theorem values_eq (h : Cert.Pre_finite_weights.fn (F := Ideal) (predicted m c) (target m c) (weights m c) = fun _ => 1#1) :
    Cert.ReferenceIdeal.Model.means (F := Ideal)
        (Cert.ReferenceIdeal.Model.hardest (Cert.ReferenceIdeal.Model.losses (predicted m c) (target m c) (weights m c)))
      = Host.divf (fun _ => finish (F := Ideal) (iblk m c 2 lastPoint) (sums m c)) (constant S_ .f32 0x45800000#32) :=
  (reference_value m c h).trans (kernel_value m c).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_weights
public import proofs.«01_k».proof.Proof.Region
public import proofs.«01_k».proof.Proof.Plain
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel ends with its arguments unchanged and its semaphores at zero. -/
theorem frame_kernel : Cert.quiescent_Kernel := fun m g _ => Cert.Plain.run m g

/-- The kernel's idealization ends with its arguments unchanged and its semaphores at zero. -/
theorem frame_kernelIdeal : Cert.quiescent_KernelIdeal := fun m g _ =>
  (θ_run _ _ _).mono (fun _ h => ⟨fun c => (h.1 c).2, h.2⟩) (Cert.KernelIdeal.Region.run m g)

/-- The reference ends with its arguments unchanged and its semaphores at zero. -/
theorem frame_referenceIdeal : Cert.quiescent_ReferenceIdeal := fun m g _ =>
  (θ_run _ _ _).mono
    (fun r h => ⟨fun c => (h c).2, Idealize.ShloMosaic.sem_eq_zero_of_no_sems (by decide) r.2⟩)
    (Cert.ReferenceIdeal.Value.run (F := Ideal) m g)

/-- From the same arguments, every weight finite, the kernel's idealization and the reference end with the same number. -/
theorem same_number : Cert.algebraic_KernelIdeal_ReferenceIdeal_pre_finite_weights := by
  intro m g m' g' hpre hagree
  refine ⟨fun c => Host.divf (fun _ => Cert.KernelIdeal.Body.finish
      (Cert.KernelIdeal.Gen.iblk m c 2 Cert.KernelIdeal.Region.lastPoint) (Cert.KernelIdeal.Region.sums m c))
      (constant Cert.KernelIdeal.S_ .f32 0x45800000#32), ?_, ?_⟩
  · exact (θ_run _ _ _).mono (fun _ h => h.1) (Cert.KernelIdeal.Region.run m g)
  · refine (θ_run _ _ _).mono (fun _ h c => ⟨(h c).1.trans ?_, (h c).2⟩) (Cert.ReferenceIdeal.Value.run (F := Ideal) m' g')
    rw [(hagree c).1, (hagree c).2.1, (hagree c).2.2]
    exact Cert.Equation.values_eq m c (hpre c)

/-- Everything the certificate claims. -/
theorem claim : Cert.Claim := ⟨Cert.Kernel.Gen.facts, Cert.KernelIdeal.Gen.facts, Cert.ReferenceIdeal.Gen.facts,
  Cert.Pre_finite_weights.Gen.facts,
  frame_kernel,
  frame_kernelIdeal,
  fun m g _ => frame_kernelIdeal m g trivial,
  frame_referenceIdeal,
  fun m g _ => frame_referenceIdeal m g trivial,
  IdealRules.named_const.statement Cert.KernelIdeal.κ "inv_hw" .f32 0x39AAAAAB#32 ((1 / 3072 : ℝ) : EReal) rfl,
  same_number⟩

end Cert.Proof

end
